-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_ranges [hPre_setup_ranges : Cert.Pre_setup_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_ranges [hPre_setup_ranges : Cert.Pre_setup_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_setup_ranges [hKernelIdeal : Cert.KernelIdeal.Facts] [hPre_setup_ranges : Cert.Pre_setup_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_setup_ranges [hReferenceIdeal : Cert.ReferenceIdeal.Facts] [hPre_setup_ranges : Cert.Pre_setup_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_setup_ranges [hKernelIdeal : Cert.KernelIdeal.Facts] [hReferenceIdeal : Cert.ReferenceIdeal.Facts] [hPre_setup_ranges : Cert.Pre_setup_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_setup_ranges : Cert.Pre_setup_ranges.Facts),
    quiescent_Kernel (hKernel := hKernel)
    ∧ quiescent_KernelIdeal (hKernelIdeal := hKernelIdeal)
    ∧ quiescent_KernelIdeal_pre_setup_ranges (hKernelIdeal := hKernelIdeal) (hPre_setup_ranges := hPre_setup_ranges)
    ∧ quiescent_ReferenceIdeal (hReferenceIdeal := hReferenceIdeal)
    ∧ quiescent_ReferenceIdeal_pre_setup_ranges (hReferenceIdeal := hReferenceIdeal) (hPre_setup_ranges := hPre_setup_ranges)
    ∧ preserves_Kernel_KernelIdeal
    ∧ algebraic_KernelIdeal_ReferenceIdeal_pre_setup_ranges (hKernelIdeal := hKernelIdeal) (hReferenceIdeal := hReferenceIdeal) (hPre_setup_ranges := hPre_setup_ranges)
-- ==== Pre_setup_ranges.lean ====
abbrev S4x2048x1024 : Shape := ⟨3, ![4, 2048, 1024]⟩
abbrev S4x2048 : Shape := ⟨2, ![4, 2048]⟩
abbrev S2048x1024 : Shape := ⟨2, ![2048, 1024]⟩
abbrev S2x1024 : Shape := ⟨2, ![2, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S4x2048 : S_.BroadcastsInDim S4x2048 (![] : Fin 0 → Fin S4x2048.rank)
  reducesTo_S4x2048_S_d0_1 : S4x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : IVec S4x2048 32) (main_arg4 : FVec F S1024 .f32) (main_arg5 : FVec F S1024 .f32) (main_v13 : IVec S_ 1) (main_v15 : IVec S4x2048 1) (main_c_5 : IVec S_ 32) : IVec S_ 1 :=
  let main_v16 : IVec S4x2048 32 := broadcastInDim S4x2048 ![] bcast_S_S4x2048 main_c_5
  let main_v17 : IVec S4x2048 1 := cmpi .eq main_arg1 main_v16
  let main_v18 : IVec S4x2048 1 := ori main_v15 main_v17
  let main_c_6 : IVec S_ 1 := constantI S_ 1 1#1
  let main_v19 : IVec S_ 1 := (fun x v => Host.reduce IntOp.andi x v reducesTo_S4x2048_S_d0_1 h_S_) main_v18 main_c_6
  let main_cst_7 : FVec F S_ .f32 := constant S_ .f32 0x3F800000#32
  let main_v20 : FVec F S1024 .f32 := broadcastInDim S1024 ![] bcast_S_S1024 main_cst_7
  let main_v21 : IVec S1024 1 := cmpf .oeq main_arg4 main_v20
  let main_c_8 : IVec S_ 1 := constantI S_ 1 1#1
  let main_v22 : IVec S_ 1 := (fun x v => Host.reduce IntOp.andi x v reducesTo_S1024_S_d0 h_S_) main_v21 main_c_8
  let main_cst_9 : FVec F S_ .f32 := constant S_ .f32 0x00000000#32
  let main_v23 : FVec F S1024 .f32 := broadcastInDim S1024 ![] bcast_S_S1024 main_cst_9
  let main_v24 : IVec S1024 1 := cmpf .oeq main_arg5 main_v23
  let main_c_10 : IVec S_ 1 := constantI S_ 1 1#1
  let main_v25 : IVec S_ 1 := (fun x v => Host.reduce IntOp.andi x v reducesTo_S1024_S_d0 h_S_) main_v24 main_c_10
  let main_v26 : IVec S_ 1 := andi main_v22 main_v25
  let main_v27 : IVec S_ 1 := andi main_v13 main_v19
  let main_v28 : IVec S_ 1 := andi main_v27 main_v26
  main_v28

def fn {F : FTy → Type} [FloatOps F] (main_arg0 : FVec F S4x2048x1024 .f32) (main_arg1 : IVec S4x2048 32) (main_arg2 : FVec F S2048x1024 .f32) (main_arg3 : FVec F S2x1024 .f32) (main_arg4 : FVec F S1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_c_4 : IVec S_ 32 := constantI S_ 32 0#32
  let main_v14 : IVec S4x2048 32 := broadcastInDim S4x2048 ![] bcast_S_S4x2048 main_c_4
  let main_v15 : IVec S4x2048 1 := cmpi .eq main_arg1 main_v14
  let main_c_5 : IVec S_ 32 := constantI S_ 32 1#32
  fn_part1 (F := F) main_arg1 main_arg4 main_arg5 main_v13 main_v15 main_c_5
-- ==== Kernel.lean ====
abbrev S4x2048x1024 : Shape := ⟨3, ![4, 2048, 1024]⟩
abbrev S4x2048 : Shape := ⟨2, ![4, 2048]⟩
abbrev S2048x1024 : Shape := ⟨2, ![2048, 1024]⟩
abbrev S2x1024 : Shape := ⟨2, ![2, 1024]⟩
abbrev S1024 : Shape := ⟨1, ![1024]⟩
abbrev S4x1x2048 : Shape := ⟨3, ![4, 1, 2048]⟩
abbrev S1x2048x1024 : Shape := ⟨3, ![1, 2048, 1024]⟩
abbrev S1x1x2048 : Shape := ⟨3, ![1, 1, 2048]⟩
abbrev S2048 : Shape := ⟨1, ![2048]⟩
abbrev S2048x1 : Shape := ⟨2, ![2048, 1]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S2048x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S4x1x2048, .i32⟩
  | .hbm, ⟨7, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x2048, .i32⟩
  | .local _ .vmem, ⟨3, _⟩ => ⟨S1x1x2048, .i32⟩
  | .local _ .vmem, ⟨4, _⟩ => ⟨S2048x1024, .f32⟩
  | .local _ .vmem, ⟨5, _⟩ => ⟨S2x1024, .f32⟩
  | .local _ .vmem, ⟨6, _⟩ => ⟨S1x2048x1024, .f32⟩
  | .local _ .vmem, ⟨7, _⟩ => ⟨S1x2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x2048x1024 : Shape := ⟨3, ![4, 2048, 1024]⟩
abbrev S4x2048 : Shape := ⟨2, ![4, 2048]⟩
abbrev S2048x1024 : Shape := ⟨2, ![2048, 1024]⟩
abbrev S2x1024 : Shape := ⟨2, ![2, 1024]⟩
abbrev S1024 : Shape := ⟨1, ![1024]⟩
abbrev S2048 : Shape := ⟨1, ![2048]⟩
abbrev S1x2048 : Shape := ⟨2, ![1, 2048]⟩
abbrev S_ : Shape := ⟨0, ![]⟩
abbrev S4x2048x1 : Shape := ⟨3, ![4, 2048, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S2048x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S2048, .i32⟩
  | .hbm, ⟨7, _⟩ => ⟨S1x2048, .i32⟩
  | .hbm, ⟨8, _⟩ => ⟨S4x2048, .i32⟩
  | .hbm, ⟨9, _⟩ => ⟨S_, .i32⟩
  | .hbm, ⟨10, _⟩ => ⟨S4x2048, .i32⟩
  | .hbm, ⟨11, _⟩ => ⟨S4x2048, .i1⟩
  | .hbm, ⟨12, _⟩ => ⟨S_, .i32⟩
  | .hbm, ⟨13, _⟩ => ⟨S4x2048, .i32⟩
  | .hbm, ⟨14, _⟩ => ⟨S4x2048, .i32⟩
  | .hbm, ⟨15, _⟩ => ⟨S4x2048, .i32⟩
  | .hbm, ⟨16, _⟩ => ⟨S4x2048x1, .i32⟩
  | .hbm, ⟨17, _⟩ => ⟨S1, .i32⟩
  | .hbm, ⟨18, _⟩ => ⟨S_, .i32⟩
  | .hbm, ⟨19, _⟩ => ⟨S4x2048x1, .i32⟩
  | .hbm, ⟨20, _⟩ => ⟨S4x2048x1, .i1⟩
  | .hbm, ⟨21, _⟩ => ⟨S1x1x1, .i32⟩
  | .hbm, ⟨22, _⟩ => ⟨S4x2048x1, .i32⟩
  | .hbm, ⟨23, _⟩ => ⟨S4x2048x1, .i1⟩
  | .hbm, ⟨24, _⟩ => ⟨S4x2048x1, .i1⟩
  | .hbm, ⟨25, _⟩ => ⟨S_, .i1⟩
  | .hbm, ⟨26, _⟩ => ⟨S4x2048, .i1⟩
  | .hbm, ⟨27, _⟩ => ⟨S4x2048x1024, .f32⟩
  | .hbm, ⟨28, _⟩ => ⟨S4x2048x1024, .i1⟩
  | .hbm, ⟨29, _⟩ => ⟨S_, .f32⟩
  | .hbm, ⟨30, _⟩ => ⟨S4x2048x1024, .f32⟩
  | .hbm, ⟨31, _⟩ => ⟨S4x2048x1024, .f32⟩
  | .hbm, ⟨32, _⟩ => ⟨S_, .i32⟩
  | .hbm, ⟨33, _⟩ => ⟨S4x2048, .i32⟩
  | .hbm, ⟨34, _⟩ => ⟨S4x2048, .i1⟩
  | .hbm, ⟨35, _⟩ => ⟨S_, .i32⟩
  | .hbm, ⟨36, _⟩ => ⟨S4x2048, .i32⟩
  | .hbm, ⟨37, _⟩ => ⟨S4x2048, .i32⟩
  | .hbm, ⟨38, _⟩ => ⟨S4x2048, .i32⟩
  | .hbm, ⟨39, _⟩ => ⟨S4x2048x1, .i32⟩
  | .hbm, ⟨40, _⟩ => ⟨S1, .i32⟩
  | .hbm, ⟨41, _⟩ => ⟨S_, .i32⟩
  | .hbm, ⟨42, _⟩ => ⟨S4x2048x1, .i32⟩
  | .hbm, ⟨43, _⟩ => ⟨S4x2048x1, .i1⟩
  | .hbm, ⟨44, _⟩ => ⟨S1x1x1, .i32⟩
  | .hbm, ⟨45, _⟩ => ⟨S4x2048x1, .i32⟩
  | .hbm, ⟨46, _⟩ => ⟨S4x2048x1, .i1⟩
  | .hbm, ⟨47, _⟩ => ⟨S4x2048x1, .i1⟩
  | .hbm, ⟨48, _⟩ => ⟨S_, .i1⟩
  | .hbm, ⟨49, _⟩ => ⟨S4x2048, .i1⟩
  | .hbm, ⟨50, _⟩ => ⟨S4x2048x1024, .f32⟩
  | .hbm, ⟨51, _⟩ => ⟨S4x2048x1024, .i1⟩
  | .hbm, ⟨52, _⟩ => ⟨S_, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S4x2048x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S_, .f32⟩
  | .hbm, ⟨70, _⟩ => ⟨S4x2048x1, .f32⟩
  | .hbm, ⟨71, _⟩ => ⟨S4x2048x1, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S4x2048x1, .f32⟩
  | .hbm, ⟨76, _⟩ => ⟨S4x2048x1, .f32⟩
  | .hbm, ⟨77, _⟩ => ⟨S4x2048x1, .f32⟩
  | .hbm, ⟨78, _⟩ => ⟨S4x2048x1024, .f32⟩
  | .hbm, ⟨79, _⟩ => ⟨S4x2048x1024, .f32⟩
  | .hbm, ⟨80, _⟩ => ⟨S1x1x1024, .f32⟩
  | .hbm, ⟨81, _⟩ => ⟨S4x2048x1024, .f32⟩
  | .hbm, ⟨82, _⟩ => ⟨S4x2048x1024, .f32⟩
  | .hbm, ⟨83, _⟩ => ⟨S1x1x1024, .f32⟩
  | .hbm, ⟨84, _⟩ => ⟨S4x2048x1024, .f32⟩
  | .hbm, ⟨85, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_cst_0 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_cst_1 : Ref sig .tc := ⟨.hbm, 66, rfl⟩
abbrev main_v14 : Ref sig .tc := ⟨.hbm, 67, rfl⟩
abbrev main_v15 : Ref sig .tc := ⟨.hbm, 68, rfl⟩
abbrev main_cst_2 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩

abbrev nD : Nat := 1
abbrev τ : Topo := Topo.v7x

variable {F : FTy → Type} [FloatOps F]
-- ==== Proof.RowNorm.lean ====
/-
  One row of 1024 numbers, normalised in two ways, and the proof that the two agree on rows of finite numbers.
  The first way takes the variance as the mean of the squares less the square of the mean and multiplies by a reciprocal
  square root; the second takes it as the mean of the squared deviations and divides by a square root.
  Nothing here mentions a program: the two definitions are over the extended reals, with the constants the programs spell.
-/
module

public import Idealize.ShloMosaic.Lib.IdealHost

@[expose] public section

noncomputable section

namespace Cert.RowNorm

open Idealize.ShloMosaic

/-! ## The constants -/

/-- The word `0x3A800000` is 1/1024. -/
theorem word_inv : Ideal.ofBits .f32 0x3A800000#32 = ((1 / 1024 : ℝ) : EReal) := by
  simp [Ideal.ofBits, Ideal.ieee, -EReal.coe_mul]; norm_num

/-- The word `0x44800000` is 1024. -/
theorem word_count : Ideal.ofBits .f32 0x44800000#32 = ((1024 : ℝ) : EReal) := by
  simp [Ideal.ofBits, Ideal.ieee, -EReal.coe_mul]; norm_num

/-- The word `0x3F000000` is one half. -/
theorem word_half : Ideal.ofBits .f32 0x3F000000#32 = ((1 / 2 : ℝ) : EReal) := by
  simp [Ideal.ofBits, Ideal.ieee, -EReal.coe_mul]; norm_num

/-- The word `0x2B8CBCCC` (about 1e-12) is some positive real number; nothing more is needed of it. -/
theorem word_eps : ∃ ε : ℝ, 0 < ε ∧ Ideal.ofBits .f32 0x2B8CBCCC#32 = (ε : EReal) := by
  refine ⟨_, ?_, by simp only [Ideal.ofBits, Ideal.ieee]; simp [-EReal.coe_mul]; rfl⟩
  norm_num

/-! ## The two ways -/

/-- The mean of a row, by a product with 1/1024. -/
def meanMul (e : Fin 1024 → EReal) : EReal := (∑ k, e k) * Ideal.ofBits .f32 0x3A800000#32

/-- The mean of a row, by a quotient by 1024. -/
def meanDiv (e : Fin 1024 → EReal) : EReal := Ideal.div (∑ k, e k) (Ideal.ofBits .f32 0x44800000#32)

/-- The first way: variance = mean of squares − square of mean, then a product with the reciprocal square root. -/
def oneRead (e : Fin 1024 → EReal) (l : Fin 1024) : EReal :=
  (e l - meanMul e)
    * Ideal.rsqrt ((∑ k, e k * e k) * Ideal.ofBits .f32 0x3A800000#32 - meanMul e * meanMul e + Ideal.ofBits .f32 0x2B8CBCCC#32)

/-- The second way: variance = mean of squared deviations, then a quotient by the square root, a weight and a bias. -/
def textbook (e : Fin 1024 → EReal) (w b : EReal) (l : Fin 1024) : EReal :=
  Ideal.div (e l - meanDiv e)
      (Ideal.sqrt (Ideal.div (∑ k, (e k - meanDiv e) * (e k - meanDiv e)) (Ideal.ofBits .f32 0x44800000#32)
        + Ideal.ofBits .f32 0x2B8CBCCC#32)) * w + b

/-! ## Over the reals -/

/-- A sum of reals is the same sum taken in the extended reals. -/
theorem coe_sum (f : Fin 1024 → ℝ) : ∑ k, ((f k : ℝ) : EReal) = ((∑ k, f k : ℝ) : EReal) := by
  induction (Finset.univ : Finset (Fin 1024)) using Finset.induction_on with
  | empty => simp
  | insert a s ha ih => rw [Finset.sum_insert ha, Finset.sum_insert ha, ih, EReal.coe_add]

/-- The mean of the squares less the square of the mean is the mean of the squared deviations. -/
theorem variance_eq (f : Fin 1024 → ℝ) :
    (∑ k, f k * f k) * (1 / 1024) - (∑ k, f k) * (1 / 1024) * ((∑ k, f k) * (1 / 1024))
      = (∑ k, (f k - (∑ j, f j) * (1 / 1024)) * (f k - (∑ j, f j) * (1 / 1024))) * (1 / 1024) := by
  generalize hs : ∑ j, f j = s
  have h : ∀ k, (f k - s * (1 / 1024)) * (f k - s * (1 / 1024))
      = f k * f k - f k * (2 * (s * (1 / 1024))) + (s * (1 / 1024)) * (s * (1 / 1024)) := fun k => by ring
  simp only [h, Finset.sum_add_distrib, Finset.sum_sub_distrib, ← Finset.sum_mul, hs, Finset.sum_const, Finset.card_univ,
    Fintype.card_fin, nsmul_eq_mul]
  push_cast
  ring

/-- A quotient by 1024 is a product with 1/1024. -/
theorem div_count (x : ℝ) : Ideal.div (x : EReal) ((1024 : ℝ) : EReal) = ((x * (1 / 1024) : ℝ) : EReal) := by
  unfold Ideal.div
  rw [if_neg (by norm_cast), ← EReal.coe_inv, ← EReal.coe_mul]
  norm_num

/-- A quotient by the square root of a positive real is a product with its reciprocal square root. -/
theorem div_sqrt (x v : ℝ) (hv : 0 < v) :
    Ideal.div (x : EReal) (Ideal.sqrt (v : EReal)) = (x : EReal) * Ideal.rsqrt (v : EReal) := by
  have hs : Ideal.sqrt (v : EReal) = ((Real.sqrt v : ℝ) : EReal) := by
    show (if v < 0 then (⊥ : EReal) else (Real.sqrt v : EReal)) = _
    rw [if_neg (not_lt.2 hv.le)]
  have hr : Ideal.rsqrt (v : EReal) = (((Real.sqrt v)⁻¹ : ℝ) : EReal) := by
    show (if v < 0 then (⊥ : EReal) else if v = 0 then ⊤ else ((Real.sqrt v)⁻¹ : ℝ)) = _
    rw [if_neg (not_lt.2 hv.le), if_neg hv.ne']
  have h0 : (Real.sqrt v : EReal) ≠ 0 := by
    intro h
    exact (Real.sqrt_pos.2 hv).ne' (EReal.coe_eq_zero.1 h)
  rw [hs, hr]
  unfold Ideal.div
  rw [if_neg h0, EReal.coe_inv]

/-- On a row of reals the two ways agree, the weight being one and the bias zero. -/
theorem oneRead_eq_textbook_coe (f : Fin 1024 → ℝ) (l : Fin 1024) :
    oneRead (fun k => (f k : EReal)) l = textbook (fun k => (f k : EReal)) 1 0 l := by
  obtain ⟨ε, hε, hw⟩ := word_eps
  have hv : 0 < (∑ k, (f k - (∑ j, f j) * (1 / 1024)) * (f k - (∑ j, f j) * (1 / 1024))) * (1 / 1024) + ε :=
    add_pos_of_nonneg_of_pos (mul_nonneg (Finset.sum_nonneg fun k _ => mul_self_nonneg _) (by norm_num)) hε
  unfold oneRead textbook meanMul meanDiv
  simp only [hw, word_inv, word_count, coe_sum, div_count, ← EReal.coe_mul, ← EReal.coe_sub, ← EReal.coe_add, mul_one, add_zero]
  rw [variance_eq, div_sqrt _ _ hv]

/-- The two ways agree on a row of finite numbers, the weight being one and the bias zero. -/
theorem oneRead_eq_textbook (e : Fin 1024 → EReal) (he : ∀ k, ∃ r : ℝ, e k = r) (w b : EReal) (hw : w = 1) (hb : b = 0) (l : Fin 1024) :
    oneRead e l = textbook e w b l := by
  choose f hf using he
  obtain rfl : e = fun k => (f k : EReal) := funext hf
  subst hw hb
  exact oneRead_eq_textbook_coe f l

end Cert.RowNorm

end
-- ==== Proof.KernelBlock.lean ====
/-
  The kernel's block payload read at an index: from the values the body loads, what it stores at row `r`, lane `l` is row `r`
  of the summed embeddings normalised the first way (`RowNorm.oneRead`).
-/
module

public import proofs.«01_k».proof.Proof.Gen.KernelIdeal.Skeleton
public import proofs.«01_k».proof.Proof.RowNorm
public import Idealize.ShloMosaic.Lib.Pointwise

@[expose] public section

set_option maxRecDepth 16384

noncomputable section

namespace Cert.KernelIdeal.Block

open Cert.KernelIdeal Cert.KernelIdeal.Gen Idealize.ShloMosaic

/-- Row `r` of the summed embeddings, from the loaded values: the element, its position's row, and one of the two type rows. -/
def sumRow (x : Vec Ideal S1x2048x1024 .f32) (p : Vec Ideal S2048x1024 .f32) (t : Vec Ideal S1x1x2048 .i32)
    (t1 t0 : Vec Ideal S1x1024 .f32) (r : Fin 2048) (l : Fin 1024) : EReal :=
  x (ix3 0 r l) + p (ix2 r l)
    + if Ideal.ofBits .f32 0x3F000000#32 < FloatOps.sitofp (F := Ideal) .f32 (t (ix3 0 0 r)) then t1 (ix2 0 l) else t0 (ix2 0 l)

variable (x : Vec Ideal S1x2048x1024 .f32) (p : Vec Ideal S2048x1024 .f32) (t : Vec Ideal S1x1x2048 .i32)
  (t1 t0 : Vec Ideal S1x1024 .f32)

/-- The summed embeddings. -/
theorem pay2_apply (r : Fin 2048) (l : Fin 1024) : k0_pay2 x p t t1 t0 (ix2 r l) = sumRow x p t t1 t0 r l := by
  pointwise [k0_pay2, sumRow]

/-- The column of means. -/
theorem pay3_apply (r : Fin 2048) : k0_pay3 x p t t1 t0 (ix2 r 0) = RowNorm.meanMul (sumRow x p t t1 t0 r) := by
  pointwise [k0_pay3, RowNorm.meanMul]
  simp only [pay2_apply]

/-- The deviations from the mean. -/
theorem pay4_apply (r : Fin 2048) (l : Fin 1024) :
    k0_pay4 x p t t1 t0 (ix2 r l) = sumRow x p t t1 t0 r l - RowNorm.meanMul (sumRow x p t t1 t0 r) := by
  pointwise [k0_pay4]
  rw [pay2_apply, pay3_apply]

/-- The reciprocal square root of the variance, the same along a row. -/
theorem pay5_apply (r : Fin 2048) (l : Fin 1024) :
    k0_pay5 x p t t1 t0 (ix2 r l)
      = Ideal.rsqrt ((∑ k, sumRow x p t t1 t0 r k * sumRow x p t t1 t0 r k) * Ideal.ofBits .f32 0x3A800000#32
          - RowNorm.meanMul (sumRow x p t t1 t0 r) * RowNorm.meanMul (sumRow x p t t1 t0 r) + Ideal.ofBits .f32 0x2B8CBCCC#32) := by
  pointwise [k0_pay5]
  simp only [pay2_apply, pay3_apply]

/-- What the body stores at row `r`, lane `l`. -/
theorem pay1_apply (r : Fin 2048) (l : Fin 1024) :
    k0_pay1 (k0_pay4 x p t t1 t0) (k0_pay5 x p t t1 t0) (ix3 0 r l) = RowNorm.oneRead (sumRow x p t t1 t0 r) l := by
  pointwise [k0_pay1]
  rw [pay4_apply, pay5_apply]
  rfl

end Cert.KernelIdeal.Block

end
-- ==== Proof.KernelValue.lean ====
/-
  The kernel's result array after its run, as one function of the argument arrays: row `(n, r)` of the summed embeddings
  normalised the first way. Grid point `n` handles batch `n`: the blocks it reads and writes are that batch's slices.
-/
module

public import proofs.«01_k».proof.Proof.Gen.KernelIdeal.Frame
public import proofs.«01_k».proof.Proof.KernelBlock
public import Idealize.ShloMosaic.Lib.Pipeline.Value
public import Idealize.ShloMosaic.Lib.StableHlo.Run

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)

/-- Row `(n, r)` of the summed embeddings, the type's row chosen by comparing the type with one half. -/
def sumRow (x : FVec Ideal S4x2048x1024 .f32) (t : IVec S4x2048 32) (p : FVec Ideal S2048x1024 .f32) (tab : FVec Ideal S2x1024 .f32)
    (n : Fin 4) (r : Fin 2048) (l : Fin 1024) : EReal :=
  x (ix3 n r l) + p (ix2 r l)
    + if Ideal.ofBits .f32 0x3F000000#32 < FloatOps.sitofp (F := Ideal) .f32 (t (ix2 n r)) then tab (ix2 1 l) else tab (ix2 0 l)

variable (m : (ℓ : Loc nD τ sig) → Buf (Elt Ideal) ℓ) (ρ : Dev nD → PrngReg)

/-- What the result array is shown to hold. -/
def result (c : Dev nD) : Buf (Elt Ideal) ((c : Thread nD τ).loc main_v0) := fun i : S4x2048x1024.Idx =>
  RowNorm.oneRead
    (sumRow (m ((c : Thread nD τ).loc main_arg0)) (m ((c : Thread nD τ).loc main_arg1)) (m ((c : Thread nD τ).loc main_arg2))
      (m ((c : Thread nD τ).loc main_arg3)) (i 0) (i 1)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-! ## Where the blocks lie -/

/-- The batch that grid point `t` handles. -/
def batch (t : Fin cfg0.N) : Fin 4 := ⟨t.val, lt_of_lt_of_eq t.isLt N_0⟩

/-- Block offsets of the embeddings' window. -/
theorem off0 (t : Fin cfg0.N) : win0_0.index t 0 * win0_0.size 0 = t.val ∧ win0_0.index t 1 * win0_0.size 1 = 0
    ∧ win0_0.index t 2 * win0_0.size 2 = 0 := by
  revert t; exact (by decide +kernel : ∀ t : Fin grid0.N, win0_0.index t 0 * win0_0.size 0 = t.val
    ∧ win0_0.index t 1 * win0_0.size 1 = 0 ∧ win0_0.index t 2 * win0_0.size 2 = 0)

/-- Block offsets of the types' window. -/
theorem off1 (t : Fin cfg0.N) : win0_1.index t 0 * win0_1.size 0 = t.val ∧ win0_1.index t 1 * win0_1.size 1 = 0
    ∧ win0_1.index t 2 * win0_1.size 2 = 0 := by
  revert t; exact (by decide +kernel : ∀ t : Fin grid0.N, win0_1.index t 0 * win0_1.size 0 = t.val
    ∧ win0_1.index t 1 * win0_1.size 1 = 0 ∧ win0_1.index t 2 * win0_1.size 2 = 0)

/-- Block offsets of the position table's window: the whole table. -/
theorem off2 (t : Fin cfg0.N) : win0_2.index t 0 * win0_2.size 0 = 0 ∧ win0_2.index t 1 * win0_2.size 1 = 0 := by
  revert t; exact (by decide +kernel : ∀ t : Fin grid0.N, win0_2.index t 0 * win0_2.size 0 = 0 ∧ win0_2.index t 1 * win0_2.size 1 = 0)

/-- Block offsets of the type table's window: the whole table. -/
theorem off3 (t : Fin cfg0.N) : win0_3.index t 0 * win0_3.size 0 = 0 ∧ win0_3.index t 1 * win0_3.size 1 = 0 := by
  revert t; exact (by decide +kernel : ∀ t : Fin grid0.N, win0_3.index t 0 * win0_3.size 0 = 0 ∧ win0_3.index t 1 * win0_3.size 1 = 0)

/-- Block offsets and extents of the result's window. -/
theorem off4 (t : Fin cfg0.N) : (win0_4.index t 0 * win0_4.size 0 = t.val ∧ win0_4.index t 1 * win0_4.size 1 = 0
    ∧ win0_4.index t 2 * win0_4.size 2 = 0)
    ∧ win0_4.xsize (grid0.coords t) 0 = 1 ∧ win0_4.xsize (grid0.coords t) 1 = 2048 ∧ win0_4.xsize (grid0.coords t) 2 = 1024 := by
  revert t; exact (by decide +kernel : ∀ t : Fin grid0.N, (win0_4.index t 0 * win0_4.size 0 = t.val
    ∧ win0_4.index t 1 * win0_4.size 1 = 0 ∧ win0_4.index t 2 * win0_4.size 2 = 0)
    ∧ win0_4.xsize (grid0.coords t) 0 = 1 ∧ win0_4.xsize (grid0.coords t) 1 = 2048 ∧ win0_4.xsize (grid0.coords t) 2 = 1024)

/-! ## The input blocks at an index -/

/-- The region finds the types reshaped to one row per batch. -/
theorem V_types (c : Dev nD) :
    V m c main_call0_v0 = shapeCast S4x1x2048 (m ((c : Thread nD τ).loc main_arg1) : IVec S4x2048 32) shapeCasts_S4x2048_S4x1x2048 := by
  rfl

/-- The embeddings' block at point `t`: that batch's slice. -/
theorem iblk0_apply (c : Dev nD) (t : Fin cfg0.N) (r : Fin 2048) (l : Fin 1024) :
    (iblk m c 0 t : Vec Ideal S1x2048x1024 .f32) (ix3 0 r l) = (m ((c : Thread nD τ).loc main_arg0) : FVec Ideal S4x2048x1024 .f32) (ix3 (batch t) r l) := by
  show V m c main_arg0 ((win0_0.rect t).idx (ix3 0 r l)) = _
  rw [V_main_arg0]
  obtain ⟨e0, e1, e2⟩ := off0 t
  refine congrArg (m ((c : Thread nD τ).loc main_arg0)) (funext fun a => Fin.ext ?_)
  match a with
  | ⟨0, _⟩ => show win0_0.index t 0 * win0_0.size 0 + 0 = t.val; rw [e0, Nat.add_zero]
  | ⟨1, _⟩ => show win0_0.index t 1 * win0_0.size 1 + 1 * r.val = r.val; rw [e1, Nat.zero_add, Nat.one_mul]
  | ⟨2, _⟩ => show win0_0.index t 2 * win0_0.size 2 + 1 * l.val = l.val; rw [e2, Nat.zero_add, Nat.one_mul]

/-- The types' block at point `t`: that batch's row. -/
theorem iblk1_apply (c : Dev nD) (t : Fin cfg0.N) (r : Fin 2048) :
    (iblk m c 1 t : Vec Ideal S1x1x2048 .i32) (ix3 0 0 r) = (m ((c : Thread nD τ).loc main_arg1) : IVec S4x2048 32) (ix2 (batch t) r) := by
  show V m c main_call0_v0 ((win0_1.rect t).idx (ix3 0 0 r)) = _
  rw [V_types]
  obtain ⟨e0, e1, e2⟩ := off1 t
  have hi : (win0_1.rect t).idx (ix3 0 0 r) = (ix3 (batch t) 0 r : S4x1x2048.Idx) := by
    refine funext fun a => Fin.ext ?_
    match a with
    | ⟨0, _⟩ => show win0_1.index t 0 * win0_1.size 0 + 0 = t.val; rw [e0, Nat.add_zero]
    | ⟨1, _⟩ => show win0_1.index t 1 * win0_1.size 1 + 0 = 0; rw [e1]
    | ⟨2, _⟩ => show win0_1.index t 2 * win0_1.size 2 + 1 * r.val = r.val; rw [e2, Nat.zero_add, Nat.one_mul]
  refine (congrArg _ hi).trans ?_
  pointwise

/-- The position table's block: the table. -/
theorem iblk2_apply (c : Dev nD) (t : Fin cfg0.N) (r : Fin 2048) (l : Fin 1024) :
    (iblk m c 2 t : Vec Ideal S2048x1024 .f32) (ix2 r l) = (m ((c : Thread nD τ).loc main_arg2) : FVec Ideal S2048x1024 .f32) (ix2 r l) := by
  show V m c main_arg2 ((win0_2.rect t).idx (ix2 r l)) = _
  rw [V_main_arg2]
  obtain ⟨e0, e1⟩ := off2 t
  refine congrArg (m ((c : Thread nD τ).loc main_arg2)) (funext fun a => Fin.ext ?_)
  match a with
  | ⟨0, _⟩ => show win0_2.index t 0 * win0_2.size 0 + 1 * r.val = r.val; rw [e0, Nat.zero_add, Nat.one_mul]
  | ⟨1, _⟩ => show win0_2.index t 1 * win0_2.size 1 + 1 * l.val = l.val; rw [e1, Nat.zero_add, Nat.one_mul]

/-- The type table's block: the table. -/
theorem iblk3_apply (c : Dev nD) (t : Fin cfg0.N) (a : Fin 2) (l : Fin 1024) :
    (iblk m c 3 t : Vec Ideal S2x1024 .f32) (ix2 a l) = (m ((c : Thread nD τ).loc main_arg3) : FVec Ideal S2x1024 .f32) (ix2 a l) := by
  show V m c main_arg3 ((win0_3.rect t).idx (ix2 a l)) = _
  rw [V_main_arg3]
  obtain ⟨e0, e1⟩ := off3 t
  refine congrArg (m ((c : Thread nD τ).loc main_arg3)) (funext fun k => Fin.ext ?_)
  match k with
  | ⟨0, _⟩ => show win0_3.index t 0 * win0_3.size 0 + 1 * a.val = a.val; rw [e0, Nat.zero_add, Nat.one_mul]
  | ⟨1, _⟩ => show win0_3.index t 1 * win0_3.size 1 + 1 * l.val = l.val; rw [e1, Nat.zero_add, Nat.one_mul]

/-- A load of one row of the type table. -/
theorem row1_apply (x3 : Vec Ideal S2x1024 .f32) (l : Fin 1024) : View.ld x3 r0_3 (ix2 0 l) = x3 (ix2 1 l) := by
  refine congrArg x3 (funext fun k => Fin.ext ?_)
  match k with
  | ⟨0, _⟩ => rfl
  | ⟨1, _⟩ => show 0 + 1 * l.val = l.val; omega

/-- A load of the other. -/
theorem row0_apply (x3 : Vec Ideal S2x1024 .f32) (l : Fin 1024) : View.ld x3 r0_4 (ix2 0 l) = x3 (ix2 0 l) := by
  refine congrArg x3 (funext fun k => Fin.ext ?_)
  match k with
  | ⟨0, _⟩ => rfl
  | ⟨1, _⟩ => show 0 + 1 * l.val = l.val; omega

/-! ## What a point writes, and the whole array -/

/-- The body's block, from the staged blocks, at row `r`, lane `l`. -/
theorem out_apply (x0 : Vec Ideal S1x2048x1024 .f32) (x1 : Vec Ideal S1x1x2048 .i32) (x2 : Vec Ideal S2048x1024 .f32)
    (x3 : Vec Ideal S2x1024 .f32) (r : Fin 2048) (l : Fin 1024) :
    out0_4 x0 x1 x2 x3 (ix3 0 r l) = RowNorm.oneRead (Block.sumRow x0 x2 x1 (View.ld x3 r0_3) (View.ld x3 r0_4) r) l := by
  unfold out0_4
  rw [View.canon_unit_zero hz3, View.ld_unit_zero hz3, View.ld_unit_zero hz2, View.ld_unit_zero hz3]
  exact Block.pay1_apply _ _ _ _ _ r l

/-- An index of a block is one of a row and a lane. -/
theorem eq_ix3 (j : S1x2048x1024.Idx) : ∃ (r : Fin 2048) (l : Fin 1024), j = ix3 0 r l := by
  refine ⟨j 1, j 2, funext fun k => ?_⟩
  match k with
  | ⟨0, _⟩ => exact Subsingleton.elim (α := Fin 1) _ _
  | ⟨1, _⟩ => rfl
  | ⟨2, _⟩ => rfl

/-- What point `t` writes back is its batch's slice of `result`. -/
theorem flushed_eq (c : Dev nD) (t : Fin cfg0.N) :
    (dats m 0 c).flushed 4 t = (win0_4.blk t).view.read (Elt Ideal) (result m c) := by
  show (cfg0.win 4).cut (grid0.coords t) ((dats m 0 c).after 4 t) = _
  rw [after0_4]
  funext j
  obtain ⟨r, l, rfl⟩ := eq_ix3 j
  show out0_4 (iblk m c 0 t) (iblk m c 1 t) (iblk m c 2 t) (iblk m c 3 t) (ix3 0 r l) = result m c ((win0_4.rect t).idx (ix3 0 r l))
  have hi : (win0_4.rect t).idx (ix3 0 r l) = (ix3 (batch t) r l : S4x2048x1024.Idx) := by
    obtain ⟨⟨e0, e1, e2⟩, -⟩ := off4 t
    refine funext fun a => Fin.ext ?_
    match a with
    | ⟨0, _⟩ => show win0_4.index t 0 * win0_4.size 0 + 0 = t.val; rw [e0, Nat.add_zero]
    | ⟨1, _⟩ => show win0_4.index t 1 * win0_4.size 1 + 1 * r.val = r.val; rw [e1, Nat.zero_add, Nat.one_mul]
    | ⟨2, _⟩ => show win0_4.index t 2 * win0_4.size 2 + 1 * l.val = l.val; rw [e2, Nat.zero_add, Nat.one_mul]
  refine (out_apply _ _ _ _ r l).trans ((congrArg (fun e => RowNorm.oneRead e l) (funext fun k => ?_)).trans (congrArg (result m c) hi).symm)
  unfold Block.sumRow sumRow
  rw [row1_apply, row0_apply, iblk0_apply, iblk1_apply, iblk2_apply, iblk3_apply, iblk3_apply]
  rfl

/-- An index of the result is in point `t`'s block when its batch is `t`. -/
theorem mem_blk (t : Fin cfg0.N) (i : S4x2048x1024.Idx) (h : (i 0).val = t.val) : i ∈ ((cfg0.win 4).blk t).view.set := by
  show i ∈ ((View.whole main_v0).slice (win0_4.rect t)).set
  rw [View.set_slice_whole, Rect.mem_set_unit]
  obtain ⟨⟨e0, e1, e2⟩, s0, s1, s2⟩ := off4 t
  have h1 : (i 1).val < 2048 := (i 1).isLt
  have h2 : (i 2).val < 1024 := (i 2).isLt
  intro a
  match a with
  | ⟨0, _⟩ =>
    show win0_4.index t 0 * win0_4.size 0 ≤ (i 0).val ∧ (i 0).val < win0_4.index t 0 * win0_4.size 0 + win0_4.xsize (grid0.coords t) 0
    rw [e0, s0]; omega
  | ⟨1, _⟩ =>
    show win0_4.index t 1 * win0_4.size 1 ≤ (i 1).val ∧ (i 1).val < win0_4.index t 1 * win0_4.size 1 + win0_4.xsize (grid0.coords t) 1
    rw [e1, s1]; omega
  | ⟨2, _⟩ =>
    show win0_4.index t 2 * win0_4.size 2 ≤ (i 2).val ∧ (i 2).val < win0_4.index t 2 * win0_4.size 2 + win0_4.xsize (grid0.coords t) 2
    rw [e2, s2]; omega

/-- The four blocks cover the result array. -/
theorem cover (i : S4x2048x1024.Idx) : ∃ t : Fin cfg0.N, (cfg0.win 4).flush t = true ∧ i ∈ ((cfg0.win 4).blk t).view.set := by
  have h0 : (i 0).val < 4 := (i 0).isLt
  exact ⟨⟨(i 0).val, lt_of_lt_of_eq h0 N_0.symm⟩, flush0_4 _, mem_blk _ i rfl⟩

/-- So the result array ends holding `result`. -/
theorem final (c : Dev nD) : (dats m 0 c).arrAt 4 cfg0.N = result m c :=
  (dats m 0 c).arrAt_eq_of_cover 4 (result m c) (fun t _ => flushed_eq m c t) cover

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.RefValue

end
-- ==== Proof.RefTake.lean ====
/-
  The reference's two table look-ups read at an index. Each is a gather of table rows by a list of row numbers, a negative
  number counted from the end and a row number out of range giving a filling value; with the row numbers in range an entry
  is the table's entry in that row.
-/
module

public import proofs.«01_k».proof.Proof.Gen.ReferenceIdeal
public import Idealize.ShloMosaic.Lib.ReduceAll
public import Idealize.ShloMosaic.Lib.Pointwise

@[expose] public section

set_option maxRecDepth 16384

noncomputable section

namespace Cert.ReferenceIdeal.Take

open Cert.ReferenceIdeal Cert.ReferenceIdeal.Gen Idealize.ShloMosaic

/-- The gather from the table of types: at row number `a`, an entry is the table's. -/
theorem gather_type (tab : FVec Ideal S2x1024 .f32) (idx : IVec S4x2048x1 32) (b : Fin 4) (r : Fin 2048) (l : Fin 1024) (a : Fin 2)
    (ha : (idx (ix3 b r 0)).toInt.toNat = a.val) :
    Host.gather gather_S2x1024_S4x2048x1_S4x2048x1024_2_0_n_n_0_2_11024 tab idx (ix3 b r l) = tab (ix2 a l) := by
  have hidx : gather_S2x1024_S4x2048x1_S4x2048x1024_2_0_n_n_0_2_11024.siIdx (ix3 b r l) ⟨0, by decide⟩ = ix3 b r 0 := by
    funext k
    match k with
    | ⟨0, _⟩ => rfl
    | ⟨1, _⟩ => rfl
    | ⟨2, _⟩ => rfl
  have hlt := a.isLt
  refine congrArg tab (funext fun k => Fin.ext ?_)
  match k with
  | ⟨0, _⟩ =>
    show min (idx (gather_S2x1024_S4x2048x1_S4x2048x1024_2_0_n_n_0_2_11024.siIdx (ix3 b r l) ⟨0, by decide⟩)).toInt.toNat 1 + 0 + 0 = a.val
    rw [hidx, ha]
    omega
  | ⟨1, _⟩ =>
    show 0 + 0 + l.val = l.val
    omega

/-- The gather from the table of positions, likewise. -/
theorem gather_pos (p : FVec Ideal S2048x1024 .f32) (idx : IVec S4x2048x1 32) (b : Fin 4) (r : Fin 2048) (l : Fin 1024) (a : Fin 2048)
    (ha : (idx (ix3 b r 0)).toInt.toNat = a.val) :
    Host.gather gather_S2048x1024_S4x2048x1_S4x2048x1024_2_0_n_n_0_2_11024 p idx (ix3 b r l) = p (ix2 a l) := by
  have hidx : gather_S2048x1024_S4x2048x1_S4x2048x1024_2_0_n_n_0_2_11024.siIdx (ix3 b r l) ⟨0, by decide⟩ = ix3 b r 0 := by
    funext k
    match k with
    | ⟨0, _⟩ => rfl
    | ⟨1, _⟩ => rfl
    | ⟨2, _⟩ => rfl
  have hlt := a.isLt
  refine congrArg p (funext fun k => Fin.ext ?_)
  match k with
  | ⟨0, _⟩ =>
    show min (idx (gather_S2048x1024_S4x2048x1_S4x2048x1024_2_0_n_n_0_2_11024.siIdx (ix3 b r l) ⟨0, by decide⟩)).toInt.toNat 2047 + 0 + 0 = a.val
    rw [hidx, ha]
    omega
  | ⟨1, _⟩ =>
    show 0 + 0 + l.val = l.val
    omega

/-- The row numbers a look-up gathers at: a negative one counted from the end of the table's `n` rows. -/
def wrapped (n : BitVec 32) (t : IVec S4x2048 32) : IVec S4x2048x1 32 :=
  broadcastInDim S4x2048x1 ![0, 1] bcast_S4x2048_S4x2048x1_0_1
    (select (cmpi .slt t (broadcastInDim S4x2048 ![] bcast_S_S4x2048 (constantI S_ 32 0#32)))
      (addi t (broadcastInDim S4x2048 ![] bcast_S_S4x2048 (constantI S_ 32 n))) t)

/-- Which row numbers are in range: at least zero and at most `top`. -/
def inside (top : BitVec 32) (i : IVec S4x2048x1 32) : IVec S4x2048x1024 1 :=
  broadcastInDim S4x2048x1024 ![0, 1] bcast_S4x2048_S4x2048x1024_0_1
    (Host.reduce IntOp.andi
      (andi (cmpi .sge i (broadcastInDim S4x2048x1 ![] bcast_S_S4x2048x1 (constantI S_ 32 0#32)))
        (cmpi .sle i (broadcastInDim S4x2048x1 ![0, 1, 2] bcast_S1x1x1_S4x2048x1_0_1_2
          (broadcastInDim S1x1x1 ![2] bcast_S1_S1x1x1_2 (constantI S1 32 top)))))
      (constantI S_ 1 1#1) reducesTo_S4x2048x1_S4x2048_d2 h_S_)

/-- The filling value of a look-up out of range. -/
def filling : FVec Ideal S4x2048x1024 .f32 := broadcastInDim S4x2048x1024 ![] bcast_S_S4x2048x1024 (constant S_ .f32 0x7FC00000#32)

/-- A row number that is not negative stays as it is. -/
theorem wrapped_apply (n : BitVec 32) (t : IVec S4x2048 32) (b : Fin 4) (r : Fin 2048) (h : 0 ≤ (t (ix2 b r)).toInt) :
    wrapped n t (ix3 b r 0) = t (ix2 b r) := by
  have hc : IntOp.cmpi .slt (t (ix2 b r)) 0#32 ≠ 1#1 := fun e => by
    have := IntOp.cmpi_slt.1 e
    rw [show (0#32 : BitVec 32).toInt = 0 from rfl] at this
    omega
  have e : wrapped n t (ix3 b r 0)
      = Scalar.select (IntOp.cmpi .slt (t (ix2 b r)) 0#32) (IntOp.addi (t (ix2 b r)) n) (t (ix2 b r)) := by
    pointwise [wrapped]
  rw [e]
  exact if_neg hc

/-- Row numbers all in range are marked so. -/
theorem inside_apply (top : BitVec 32) (i : IVec S4x2048x1 32)
    (h : ∀ j, 0 ≤ (i j).toInt ∧ (i j).toInt ≤ top.toInt) (j : S4x2048x1024.Idx) : inside top i j = 1#1 := by
  unfold inside
  refine Host.reduce_andi_one _ _ _ _ _ rfl fun k => ?_
  exact IntOp.andi_eq_one.2 ⟨IntOp.cmpi_sge.2 (h k).1, IntOp.cmpi_sle.2 (h k).2⟩

/-- An index of the row numbers is one of a batch and a row. -/
theorem eq_ix3 (j : S4x2048x1.Idx) : ∃ (b : Fin 4) (r : Fin 2048), j = ix3 b r 0 := by
  refine ⟨j 0, j 1, funext fun k => ?_⟩
  match k with
  | ⟨0, _⟩ => rfl
  | ⟨1, _⟩ => rfl
  | ⟨2, _⟩ => exact Subsingleton.elim (α := Fin 1) _ _

/-- The look-up of the types' rows. -/
def types (t : IVec S4x2048 32) (tab : FVec Ideal S2x1024 .f32) : FVec Ideal S4x2048x1024 .f32 :=
  select (inside 1#32 (wrapped 2#32 t)) (Host.gather gather_S2x1024_S4x2048x1_S4x2048x1024_2_0_n_n_0_2_11024 tab (wrapped 2#32 t)) filling

/-- The row numbers 0 to 2047, the same for every batch. -/
def positions : IVec S4x2048 32 :=
  broadcastInDim S4x2048 ![0, 1] bcast_S1x2048_S4x2048_0_1 (broadcastInDim S1x2048 ![1] bcast_S2048_S1x2048_1 (iotaInDim S2048 32 0))

/-- The look-up of the positions' rows. -/
def places (p : FVec Ideal S2048x1024 .f32) : FVec Ideal S4x2048x1024 .f32 :=
  select (inside 2047#32 (wrapped 2048#32 positions))
    (Host.gather gather_S2048x1024_S4x2048x1_S4x2048x1024_2_0_n_n_0_2_11024 p (wrapped 2048#32 positions)) filling

/-- With every type 0 or 1, an entry is the entry of that row of the table. -/
theorem types_apply (t : IVec S4x2048 32) (tab : FVec Ideal S2x1024 .f32) (h : ∀ i, t i = 0#32 ∨ t i = 1#32)
    (b : Fin 4) (r : Fin 2048) (l : Fin 1024) :
    types t tab (ix3 b r l) = if t (ix2 b r) = 1#32 then tab (ix2 1 l) else tab (ix2 0 l) := by
  have hr : ∀ i, 0 ≤ (t i).toInt ∧ (t i).toInt ≤ (1#32 : BitVec 32).toInt := fun i => by
    rcases h i with e | e <;> rw [e] <;> decide
  have hw : ∀ b r, wrapped 2#32 t (ix3 b r 0) = t (ix2 b r) := fun b r => wrapped_apply _ _ b r (hr _).1
  have hin : inside 1#32 (wrapped 2#32 t) (ix3 b r l) = 1#1 :=
    inside_apply _ _ (fun j => by obtain ⟨b', r', rfl⟩ := eq_ix3 j; rw [hw]; exact hr _) _
  refine (if_pos hin).trans ?_
  rcases h (ix2 b r) with e | e
  · rw [gather_type tab _ b r l 0 (by rw [hw, e]; rfl), e, if_neg (by decide)]
  · rw [gather_type tab _ b r l 1 (by rw [hw, e]; rfl), e, if_pos rfl]

/-- Row number `r` is `r`. -/
theorem positions_apply (b : Fin 4) (r : Fin 2048) : positions (ix2 b r) = BitVec.ofNat 32 r.val := by
  pointwise [positions]

/-- A small number as a word, read signed, is itself. -/
theorem toInt_small (n : Nat) (h : n < 2048) : (BitVec.ofNat 32 n).toInt = (n : Int) := by
  rw [BitVec.toInt_ofNat']
  exact Int.bmod_eq_of_le (by omega) (by omega)

/-- Read signed, too. -/
theorem positions_toInt (i : S4x2048.Idx) : (positions i).toInt = ((i 1).val : Int) := by
  have e : positions i = BitVec.ofNat 32 (i 1).val := rfl
  rw [e]
  exact toInt_small _ (i 1).isLt

/-- An entry of the positions' look-up is the entry of the row of that position. -/
theorem places_apply (p : FVec Ideal S2048x1024 .f32) (b : Fin 4) (r : Fin 2048) (l : Fin 1024) :
    places p (ix3 b r l) = p (ix2 r l) := by
  have hr : ∀ i, 0 ≤ (positions i).toInt ∧ (positions i).toInt ≤ (2047#32 : BitVec 32).toInt := fun i => by
    have hlt : (i 1).val < 2048 := (i 1).isLt
    rw [positions_toInt, show (2047#32 : BitVec 32).toInt = 2047 from rfl]
    omega
  have hw : ∀ b r, wrapped 2048#32 positions (ix3 b r 0) = positions (ix2 b r) := fun b r => wrapped_apply _ _ b r (hr _).1
  have hin : inside 2047#32 (wrapped 2048#32 positions) (ix3 b r l) = 1#1 :=
    inside_apply _ _ (fun j => by obtain ⟨b', r', rfl⟩ := eq_ix3 j; rw [hw]; exact hr _) _
  refine (if_pos hin).trans (gather_pos p _ b r l r ?_)
  rw [hw, positions_toInt]
  rfl

end Cert.ReferenceIdeal.Take

end
-- ==== Proof.RefValue.lean ====
/-
  The reference's result at an index: row `(b, r)` of the summed embeddings normalised the textbook way.
-/
module

public import proofs.«01_k».proof.Proof.Gen.ReferenceIdeal.Run
public import proofs.«01_k».proof.Proof.RefTake
public import proofs.«01_k».proof.Proof.RowNorm

@[expose] public section

set_option maxRecDepth 16384

noncomputable section

namespace Cert.ReferenceIdeal.RefValue

open Cert.ReferenceIdeal Cert.ReferenceIdeal.Gen Idealize.ShloMosaic Idealize.ShloMosaic.TcCoe

/-- The mean of every row, as a column. -/
def mean (e : FVec Ideal S4x2048x1024 .f32) : FVec Ideal S4x2048x1 .f32 :=
  Host.divf
    (broadcastInDim S4x2048x1 ![0, 1] bcast_S4x2048_S4x2048x1_0_1
      (Host.reduceAdd e (constant S_ .f32 0x00000000#32) reducesTo_S4x2048x1024_S4x2048_d2 h_S_))
    (broadcastInDim S4x2048x1 ![] bcast_S_S4x2048x1 (constant S_ .f32 0x44800000#32))

/-- Every row less its mean. -/
def centred (e : FVec Ideal S4x2048x1024 .f32) : FVec Ideal S4x2048x1024 .f32 :=
  subf e (broadcastInDim S4x2048x1024 ![0, 1, 2] bcast_S4x2048x1_S4x2048x1024_0_1_2 (mean e))

/-- The layer normalisation of an array of rows. -/
def norm (e : FVec Ideal S4x2048x1024 .f32) (w b : FVec Ideal S1024 .f32) : FVec Ideal S4x2048x1024 .f32 :=
  addf
    (mulf
      (Host.divf (centred e)
        (broadcastInDim S4x2048x1024 ![0, 1, 2] bcast_S4x2048x1_S4x2048x1024_0_1_2
          (Host.sqrt (addf (mean (mulf (centred e) (centred e)))
            (broadcastInDim S4x2048x1 ![] bcast_S_S4x2048x1 (constant S_ .f32 0x2B8CBCCC#32))))))
      (broadcastInDim S4x2048x1024 ![0, 1, 2] bcast_S1x1x1024_S4x2048x1024_0_1_2
        (broadcastInDim S1x1x1024 ![2] bcast_S1024_S1x1x1024_2 w)))
    (broadcastInDim S4x2048x1024 ![0, 1, 2] bcast_S1x1x1024_S4x2048x1024_0_1_2
      (broadcastInDim S1x1x1024 ![2] bcast_S1024_S1x1x1024_2 b))

/-- A mean at an index. -/
theorem mean_apply (e : FVec Ideal S4x2048x1024 .f32) (b : Fin 4) (r : Fin 2048) :
    mean e (ix3 b r 0) = RowNorm.meanDiv (fun l => e (ix3 b r l)) := by
  pointwise [mean, RowNorm.meanDiv]

/-- A deviation at an index. -/
theorem centred_apply (e : FVec Ideal S4x2048x1024 .f32) (b : Fin 4) (r : Fin 2048) (l : Fin 1024) :
    centred e (ix3 b r l) = e (ix3 b r l) - RowNorm.meanDiv (fun l => e (ix3 b r l)) := by
  pointwise [centred]
  rw [mean_apply]

/-- The normalisation at an index. -/
theorem norm_apply (e : FVec Ideal S4x2048x1024 .f32) (w b : FVec Ideal S1024 .f32) (n : Fin 4) (r : Fin 2048) (l : Fin 1024) :
    norm e w b (ix3 n r l) = RowNorm.textbook (fun l => e (ix3 n r l)) (w (ix1 l)) (b (ix1 l)) l := by
  pointwise [norm, RowNorm.textbook]
  simp only [mean_apply, centred_apply]
  pointwise [RowNorm.meanDiv]
  simp only [centred_apply]
  rfl

/-- Row `(n, r)` of the summed embeddings: the element, its position's row, and the row of its type. -/
def sumRow (x : FVec Ideal S4x2048x1024 .f32) (t : IVec S4x2048 32) (p : FVec Ideal S2048x1024 .f32) (tab : FVec Ideal S2x1024 .f32)
    (n : Fin 4) (r : Fin 2048) (l : Fin 1024) : EReal :=
  x (ix3 n r l) + p (ix2 r l) + if t (ix2 n r) = 1#32 then tab (ix2 1 l) else tab (ix2 0 l)

set_option maxHeartbeats 4000000 in
/-- The reference's composed term is the normalisation of the sum of the elements and the two look-ups. -/
theorem res_eq (m : (ℓ : Loc nD τ sig) → Buf (Elt Ideal) ℓ) (c : Dev nD) :
    Value.res_out0 m c
      = norm (addf (addf (m ((c.tc : Thread nD τ).loc main_arg0)) (Take.places (m ((c.tc : Thread nD τ).loc main_arg2))))
          (Take.types (m ((c.tc : Thread nD τ).loc main_arg1)) (m ((c.tc : Thread nD τ).loc main_arg3))))
        (m ((c.tc : Thread nD τ).loc main_arg4)) (m ((c.tc : Thread nD τ).loc main_arg5)) := by
  unfold Value.res_out0 Value.res_main_v30 norm mean centred mean Take.places Take.types Take.inside Take.positions Take.wrapped Take.filling
  rfl

/-- The reference's result at an index, every type being 0 or 1. -/
theorem res_apply (m : (ℓ : Loc nD τ sig) → Buf (Elt Ideal) ℓ) (c : Dev nD)
    (x : FVec Ideal S4x2048x1024 .f32) (t : IVec S4x2048 32) (p : FVec Ideal S2048x1024 .f32) (tab : FVec Ideal S2x1024 .f32)
    (w b : FVec Ideal S1024 .f32) (hx : m ((c.tc : Thread nD τ).loc main_arg0) = x) (ht : m ((c.tc : Thread nD τ).loc main_arg1) = t)
    (hp : m ((c.tc : Thread nD τ).loc main_arg2) = p) (htab : m ((c.tc : Thread nD τ).loc main_arg3) = tab)
    (hw : m ((c.tc : Thread nD τ).loc main_arg4) = w) (hb : m ((c.tc : Thread nD τ).loc main_arg5) = b)
    (hin : ∀ i, t i = 0#32 ∨ t i = 1#32) (n : Fin 4) (r : Fin 2048) (l : Fin 1024) :
    Value.res_out0 m c (ix3 n r l) = RowNorm.textbook (sumRow x t p tab n r) (w (ix1 l)) (b (ix1 l)) l := by
  rw [res_eq, hx, ht, hp, htab, hw, hb, norm_apply]
  refine congrArg (fun e => RowNorm.textbook e (w (ix1 l)) (b (ix1 l)) l) (funext fun k => ?_)
  show x (ix3 n r k) + Take.places p (ix3 n r k) + Take.types t tab (ix3 n r k) = _
  rw [Take.places_apply, Take.types_apply t tab hin]
  rfl

end Cert.ReferenceIdeal.RefValue

end
-- ==== Proof.Pre.lean ====
/-
  The precondition `setup_ranges` read back into facts about single elements: the three arrays summed are finite, every type is
  0 or 1, the weight is one and the bias zero.
-/
module

public import proofs.«01_k».proof.Proof.Gen.Pre_setup_ranges
public import Idealize.ShloMosaic.Lib.ReduceAll
public import Idealize.ShloMosaic.Lib.Pointwise

@[expose] public section

set_option maxRecDepth 16384

noncomputable section

namespace Cert.Pre_setup_ranges.Read

open Cert.Pre_setup_ranges Idealize.ShloMosaic

variable [Facts]
open Facts

instance : Subsingleton S_.Idx := ⟨fun i j => funext fun a => a.elim0⟩

/-- A value whose absolute value compares below plus infinity is a real number. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- What the precondition says, element by element. -/
theorem read (x : FVec Ideal S4x2048x1024 .f32) (t : IVec S4x2048 32) (p : FVec Ideal S2048x1024 .f32)
    (tab : FVec Ideal S2x1024 .f32) (w b : FVec Ideal S1024 .f32) (h : fn x t p tab w b = fun _ => 1#1) :
    (∀ i, ∃ r : ℝ, x i = (r : EReal)) ∧ (∀ i, ∃ r : ℝ, p i = (r : EReal)) ∧ (∀ i, ∃ r : ℝ, tab i = (r : EReal))
      ∧ (∀ i, t i = 0#32 ∨ t i = 1#32) ∧ (∀ i, w i = (1 : EReal)) ∧ (∀ i, b i = (0 : EReal)) := by
  have h0 := congrFun h (fun a => a.elim0)
  unfold fn fn_part1 at h0
  obtain ⟨h13_19, h26⟩ := IntOp.andi_eq_one.1 h0
  obtain ⟨h13, h19⟩ := IntOp.andi_eq_one.1 h13_19
  obtain ⟨h8, h12⟩ := IntOp.andi_eq_one.1 h13
  obtain ⟨h3, h7⟩ := IntOp.andi_eq_one.1 h8
  obtain ⟨h22, h25⟩ := IntOp.andi_eq_one.1 h26
  have k3 := Host.reduce_andi_all _ _ _ _ _ h3
  have k7 := Host.reduce_andi_all _ _ _ _ _ h7
  have k12 := Host.reduce_andi_all _ _ _ _ _ h12
  have k19 := Host.reduce_andi_all _ _ _ _ _ h19
  have k22 := Host.reduce_andi_all _ _ _ _ _ h22
  have k25 := Host.reduce_andi_all _ _ _ _ _ h25
  refine ⟨fun i => real_of_abs_lt _ (k3 i), fun i => real_of_abs_lt _ (k7 i), fun i => real_of_abs_lt _ (k12 i), fun i => ?_, fun i => ?_, fun i => ?_⟩
  · exact (IntOp.ori_eq_one.1 (k19 i)).imp IntOp.cmpi_eq.1 IntOp.cmpi_eq.1
  · have e : Ideal.cmp .oeq (w i) (Ideal.ofBits .f32 0x3F800000#32) = 1#1 := k22 i
    rw [Ideal.ofBits_one_f32] at e
    by_contra hne
    simp [Ideal.cmp, hne] at e
  · have e : Ideal.cmp .oeq (b i) (Ideal.ofBits .f32 0x00000000#32) = 1#1 := k25 i
    rw [Ideal.ofBits_zero_f32] at e
    by_contra hne
    simp [Ideal.cmp, hne] at e

end Cert.Pre_setup_ranges.Read

end
-- ==== Proof.Agree.lean ====
/-
  The kernel's result is the reference's, under the precondition: the two rows of summed embeddings are the same row of
  finite numbers, and on such a row the two normalisations agree.
-/
module

public import proofs.«01_k».proof.Defs
public import proofs.«01_k».proof.Proof.KernelValue
public import proofs.«01_k».proof.Proof.RefValue
public import proofs.«01_k».proof.Proof.Pre

@[expose] public section

set_option maxRecDepth 16384

noncomputable section

namespace Cert.Agree

open Idealize.ShloMosaic Idealize.ShloMosaic.TcCoe

/-- Of a type that is 0 or 1, to be above one half is to be 1. -/
theorem half_lt (t : BitVec 32) (h : t = 0#32 ∨ t = 1#32) :
    Ideal.ofBits .f32 0x3F000000#32 < FloatOps.sitofp (F := Ideal) .f32 t ↔ t = 1#32 := by
  rw [RowNorm.word_half]
  show ((1 / 2 : ℝ) : EReal) < (((t.toInt : ℤ) : ℝ) : EReal) ↔ _
  rw [EReal.coe_lt_coe_iff]
  rcases h with rfl | rfl
  · rw [show (0#32 : BitVec 32).toInt = 0 from rfl]
    norm_num
  · rw [show (1#32 : BitVec 32).toInt = 1 from rfl]
    norm_num

/-- The kernel's row is the reference's. -/
theorem sumRow_eq (x : FVec Ideal KernelIdeal.S4x2048x1024 .f32) (t : IVec KernelIdeal.S4x2048 32)
    (p : FVec Ideal KernelIdeal.S2048x1024 .f32) (tab : FVec Ideal KernelIdeal.S2x1024 .f32)
    (h : ∀ i, t i = 0#32 ∨ t i = 1#32) (n : Fin 4) (r : Fin 2048) :
    KernelIdeal.RefValue.sumRow x t p tab n r = ReferenceIdeal.RefValue.sumRow x t p tab n r := by
  funext l
  unfold KernelIdeal.RefValue.sumRow ReferenceIdeal.RefValue.sumRow
  simp only [half_lt _ (h _)]

/-- A row of finite terms is a row of finite numbers. -/
theorem sumRow_real (x : FVec Ideal KernelIdeal.S4x2048x1024 .f32) (t : IVec KernelIdeal.S4x2048 32)
    (p : FVec Ideal KernelIdeal.S2048x1024 .f32) (tab : FVec Ideal KernelIdeal.S2x1024 .f32)
    (hx : ∀ i, ∃ a : ℝ, x i = (a : EReal)) (hp : ∀ i, ∃ a : ℝ, p i = (a : EReal)) (htab : ∀ i, ∃ a : ℝ, tab i = (a : EReal))
    (n : Fin 4) (r : Fin 2048) (l : Fin 1024) : ∃ a : ℝ, ReferenceIdeal.RefValue.sumRow x t p tab n r l = (a : EReal) := by
  obtain ⟨a, ha⟩ := hx (ix3 n r l)
  obtain ⟨b, hb⟩ := hp (ix2 r l)
  obtain ⟨c, hc⟩ := htab (ix2 1 l)
  obtain ⟨d, hd⟩ := htab (ix2 0 l)
  unfold ReferenceIdeal.RefValue.sumRow
  rw [ha, hb, hc, hd]
  split
  · exact ⟨a + b + c, by rw [EReal.coe_add, EReal.coe_add]⟩
  · exact ⟨a + b + d, by rw [EReal.coe_add, EReal.coe_add]⟩

variable [Cert.Pre_setup_ranges.Facts]

/-- The two result arrays are equal. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hpre : Pre_KernelIdeal_setup_ranges m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5)) :
    (ReferenceIdeal.Value.res_out0 m' c : ReferenceIdeal.S4x2048x1024.Idx → EReal) = KernelIdeal.RefValue.result m c := by
  obtain ⟨hx, hp, htab, ht, hw, hb⟩ := Pre_setup_ranges.Read.read _ _ _ _ _ _ (hpre c)
  funext i
  obtain ⟨n, r, l, rfl⟩ : ∃ (n : Fin 4) (r : Fin 2048) (l : Fin 1024), i = ix3 n r l := by
    refine ⟨i 0, i 1, i 2, funext fun k => ?_⟩
    match k with
    | ⟨0, _⟩ => rfl
    | ⟨1, _⟩ => rfl
    | ⟨2, _⟩ => rfl
  refine (ReferenceIdeal.RefValue.res_apply m' c _ _ _ _ _ _ h0 h1 h2 h3 h4 h5 ht n r l).trans ?_
  refine (RowNorm.oneRead_eq_textbook _ (fun k => sumRow_real _ _ _ _ hx hp htab n r k) _ _ (hw _) (hb _) l).symm.trans ?_
  exact congrArg (fun e => RowNorm.oneRead e l) (sumRow_eq _ _ _ _ ht n r).symm

end Cert.Agree

end
-- ==== Proof.lean ====
/-
  The proof of `Cert.Claim`: the three programs run, leave their arguments as they were and every semaphore counter at zero;
  the kernel over the extended reals is the kernel as taken; and, where `setup_ranges` holds, its result is the reference's.
  The kernels' runs are the generated frame runs, the reference's the generated host run; `Proof/Agree.lean` has the equality
  of the two results, and `Proof/KernelValue.lean` the kernel's run with its result named.
-/
module

public import proofs.«01_k».proof.Proof.Agree
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_setup_ranges
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, its arguments unchanged and every semaphore counter at zero, from any memory. -/
theorem reference_quiescent : Cert.quiescent_ReferenceIdeal (hReferenceIdeal := Cert.ReferenceIdeal.Gen.facts) :=
  fun m ρ _ =>
  (θ_run (Cert.ReferenceIdeal.defs (F := Ideal)) _ _).mono
    (fun r h => And.intro (fun c => (h c).2) (Idealize.ShloMosaic.sem_eq_zero_of_no_sems (by decide) r.2))
    (Cert.ReferenceIdeal.Value.run (F := Ideal) m ρ)

/-- The kernel's result, `KernelIdeal.RefValue.result`, is what both programs leave. -/
theorem algebraic : Cert.algebraic_KernelIdeal_ReferenceIdeal_pre_setup_ranges (hKernelIdeal := Cert.KernelIdeal.Gen.facts)
    (hReferenceIdeal := Cert.ReferenceIdeal.Gen.facts) (hPre_setup_ranges := Cert.Pre_setup_ranges.Gen.facts) :=
  fun m g m' g' hpre hag =>
    ⟨fun c => Cert.KernelIdeal.RefValue.result m c, Cert.KernelIdeal.RefValue.run m g,
      (θ_run (Cert.ReferenceIdeal.defs (F := Ideal)) _ _).mono
        (fun _ h c => ⟨(h c).1.trans (Cert.Agree.result_eq m m' hpre c (hag c).1 (hag c).2.1 (hag c).2.2.1 (hag c).2.2.2.1
          (hag c).2.2.2.2.1 (hag c).2.2.2.2.2), (h c).2⟩)
        (Cert.ReferenceIdeal.Value.run (F := Ideal) m' g')⟩

theorem claim : Cert.Claim :=
  ⟨Cert.Kernel.Gen.facts, Cert.KernelIdeal.Gen.facts, Cert.ReferenceIdeal.Gen.facts, Cert.Pre_setup_ranges.Gen.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ True.intro,
    trivial,
    algebraic⟩

end Cert.Proof

end
